-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x256 : Shape := ⟨3, ![4, 4096, 256]⟩
abbrev S256x128 : Shape := ⟨2, ![256, 128]⟩
abbrev S16384x256 : Shape := ⟨2, ![16384, 256]⟩
abbrev S16384x128 : Shape := ⟨2, ![16384, 128]⟩
abbrev S2048x256 : Shape := ⟨2, ![2048, 256]⟩
abbrev S2048x128 : Shape := ⟨2, ![2048, 128]⟩
abbrev S4x4096x128 : Shape := ⟨3, ![4, 4096, 128]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x256, .f32⟩
  | .hbm, ⟨1, _⟩ => ⟨S256x128, .f32⟩
  | .hbm, ⟨2, _⟩ => ⟨S16384x256, .f32⟩
  | .hbm, ⟨3, _⟩ => ⟨S16384x128, .f32⟩
  | .hbm, ⟨4, _⟩ => ⟨S4x4096x128, .f32⟩
  | .local _ .vmem, ⟨0, _⟩ => ⟨S2048x256, .f32⟩
  | .local _ .vmem, ⟨1, _⟩ => ⟨S2048x256, .f32⟩
  | .local _ .vmem, ⟨2, _⟩ => ⟨S256x128, .f32⟩
  | .local _ .vmem, ⟨3, _⟩ => ⟨S2048x128, .f32⟩
  | .local _ .vmem, ⟨4, _⟩ => ⟨S2048x128, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x4096x256 : Shape := ⟨3, ![4, 4096, 256]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S4x4096x128 : Shape := ⟨3, ![4, 4096, 128]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S128, .i32⟩
  | .hbm, ⟨2, _⟩ => ⟨S_, .i32⟩
  | .hbm, ⟨3, _⟩ => ⟨S128, .i32⟩
  | .hbm, ⟨4, _⟩ => ⟨S128, .i1⟩
  | .hbm, ⟨5, _⟩ => ⟨S_, .i32⟩
  | .hbm, ⟨6, _⟩ => ⟨S128, .i32⟩
  | .hbm, ⟨7, _⟩ => ⟨S128, .i32⟩
  | .hbm, ⟨8, _⟩ => ⟨S128, .i32⟩
  | .hbm, ⟨9, _⟩ => ⟨S128x1, .i32⟩
  | .hbm, ⟨10, _⟩ => ⟨S1, .i32⟩
  | .hbm, ⟨11, _⟩ => ⟨S_, .i32⟩
  | .hbm, ⟨12, _⟩ => ⟨S128x1, .i32⟩
  | .hbm, ⟨13, _⟩ => ⟨S128x1, .i1⟩
  | .hbm, ⟨14, _⟩ => ⟨S1x1, .i32⟩
  | .hbm, ⟨15, _⟩ => ⟨S128x1, .i32⟩
  | .hbm, ⟨16, _⟩ => ⟨S128x1, .i1⟩
  | .hbm, ⟨17, _⟩ => ⟨S128x1, .i1⟩
  | .hbm, ⟨18, _⟩ => ⟨S_, .i1⟩
  | .hbm, ⟨19, _⟩ => ⟨S128, .i1⟩
  | .hbm, ⟨20, _⟩ => ⟨S4x4096x128, .f32⟩
  | .hbm, ⟨21, _⟩ => ⟨S4x4096x128, .i1⟩
  | .hbm, ⟨22, _⟩ => ⟨S_, .f32⟩
  | .hbm, ⟨23, _⟩ => ⟨S4x4096x128, .f32⟩
  | .hbm, ⟨24, _⟩ => ⟨S4x4096x128, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Table.lean ====
/-
  The kernel's constant operand, read entry by entry: the 256 × 128 table of words that the printed program carries holds
  the pattern of 1.0 at row `2 * b` of column `b`, and the pattern of 0.0 everywhere else. At the ideal instance that makes
  it the 0/1 matrix whose column `b` selects feature `2 * b`.
-/
module

public import proofs.«01_k».proof.Proof.Gen.KernelIdeal
public import Idealize.ShloMosaic.Lib.IdealHost
public import Idealize.ShloMosaic.Lib.Tactic
public import Idealize.ShloMosaic.Lib.ValueIdxCore

@[expose] public section

noncomputable section

namespace Cert.KernelIdeal.Table

open Cert.KernelIdeal Idealize.ShloMosaic Idealize.ShloMosaic.ValueIdx

/-- One node of the digit tree that the program's table is printed as, over a function `g` instead of 128 written arms:
    `g n` for a digit `n`, and zero past the last digit. -/
def pick (g : Nat → BitVec 32) (n : Nat) : BitVec 32 := match n with
  | 0 => g 0 | 1 => g 1 | 2 => g 2 | 3 => g 3 | 4 => g 4 | 5 => g 5 | 6 => g 6 | 7 => g 7
  | 8 => g 8 | 9 => g 9 | 10 => g 10 | 11 => g 11 | 12 => g 12 | 13 => g 13 | 14 => g 14 | 15 => g 15
  | 16 => g 16 | 17 => g 17 | 18 => g 18 | 19 => g 19 | 20 => g 20 | 21 => g 21 | 22 => g 22 | 23 => g 23
  | 24 => g 24 | 25 => g 25 | 26 => g 26 | 27 => g 27 | 28 => g 28 | 29 => g 29 | 30 => g 30 | 31 => g 31
  | 32 => g 32 | 33 => g 33 | 34 => g 34 | 35 => g 35 | 36 => g 36 | 37 => g 37 | 38 => g 38 | 39 => g 39
  | 40 => g 40 | 41 => g 41 | 42 => g 42 | 43 => g 43 | 44 => g 44 | 45 => g 45 | 46 => g 46 | 47 => g 47
  | 48 => g 48 | 49 => g 49 | 50 => g 50 | 51 => g 51 | 52 => g 52 | 53 => g 53 | 54 => g 54 | 55 => g 55
  | 56 => g 56 | 57 => g 57 | 58 => g 58 | 59 => g 59 | 60 => g 60 | 61 => g 61 | 62 => g 62 | 63 => g 63
  | 64 => g 64 | 65 => g 65 | 66 => g 66 | 67 => g 67 | 68 => g 68 | 69 => g 69 | 70 => g 70 | 71 => g 71
  | 72 => g 72 | 73 => g 73 | 74 => g 74 | 75 => g 75 | 76 => g 76 | 77 => g 77 | 78 => g 78 | 79 => g 79
  | 80 => g 80 | 81 => g 81 | 82 => g 82 | 83 => g 83 | 84 => g 84 | 85 => g 85 | 86 => g 86 | 87 => g 87
  | 88 => g 88 | 89 => g 89 | 90 => g 90 | 91 => g 91 | 92 => g 92 | 93 => g 93 | 94 => g 94 | 95 => g 95
  | 96 => g 96 | 97 => g 97 | 98 => g 98 | 99 => g 99 | 100 => g 100 | 101 => g 101 | 102 => g 102 | 103 => g 103
  | 104 => g 104 | 105 => g 105 | 106 => g 106 | 107 => g 107 | 108 => g 108 | 109 => g 109 | 110 => g 110 | 111 => g 111
  | 112 => g 112 | 113 => g 113 | 114 => g 114 | 115 => g 115 | 116 => g 116 | 117 => g 117 | 118 => g 118 | 119 => g 119
  | 120 => g 120 | 121 => g 121 | 122 => g 122 | 123 => g 123 | 124 => g 124 | 125 => g 125 | 126 => g 126 | 127 => g 127
  | _ => 0#32

/-- On a digit the node is its function. -/
theorem pick_eq (g : Nat → BitVec 32) : ∀ n < 128, pick g n = g n := by
  intro n hn
  interval_cases n <;> rfl

/-- The word of row `a`, column `b` of the selection matrix. -/
def sel (a b : Nat) : BitVec 32 := bif a == 2 * b then 0x3F800000#32 else 0x00000000#32

/-- The printed digit tree is the tree of nodes over `sel`: the kernel compares the arms with it. -/
theorem tree (i : Nat) : lit0t i = match i / 16384 with
    | 0 => pick (fun a => pick (sel a) (i % 128)) (i / 128 % 128)
    | 1 => pick (fun a => pick (sel (128 + a)) (i % 128)) (i / 128 % 128)
    | _ => 0#32 := by
  sl_kernel_rfl

/-- Every word of the table, by row `a` and column `b`. -/
theorem word (a b : Nat) (ha : a < 256) (hb : b < 128) : lit0t (128 * a + b) = sel a b := by
  have h1 : (128 * a + b) / 16384 = a / 128 := by omega
  have h2 : (128 * a + b) / 128 % 128 = a % 128 := by omega
  have h3 : (128 * a + b) % 128 = b := by omega
  rw [tree, h1, h2, h3]
  have hm : a % 128 < 128 := by omega
  obtain h | h : a / 128 = 0 ∨ a / 128 = 1 := by omega
  · rw [h]
    show pick (fun a => pick (sel a) b) (a % 128) = sel a b
    rw [pick_eq _ _ hm, pick_eq _ _ hb, show a % 128 = a by omega]
  · rw [h]
    show pick (fun a => pick (sel (128 + a)) b) (a % 128) = sel a b
    rw [pick_eq _ _ hm, pick_eq _ _ hb, show 128 + a % 128 = a by omega]

/-- The table as the array the kernel multiplies by, at the ideal instance: 1 at row `2 * b` of column `b`, else 0. -/
theorem entry (a : Fin 256) (b : Fin 128) :
    (FloatOps.ofBits (F := Ideal) .f32 (lit0 (S256x128.rowMajor (ix2 a b))) : EReal)
      = if a.val = 2 * b.val then 1 else 0 := by
  have hv : (S256x128.rowMajor (ix2 a b)).val = 128 * a.val + b.val := by
    refine (Shape.rowMajor_val_two (ix2 a b)).trans ?_
    show a.val * 128 + b.val = _
    omega
  have hl : lit0 (S256x128.rowMajor (ix2 a b)) = lit0t (128 * a.val + b.val) := by
    rw [← hv]
  rw [hl, word a.val b.val a.isLt b.isLt]
  by_cases h : a.val = 2 * b.val
  · rw [if_pos h, h, sel, beq_self_eq_true]
    exact Ideal.ofBits_one_f32
  · rw [if_neg h, sel, beq_eq_false_iff_ne.mpr h]
    exact Ideal.ofBits_zero_f32

end Cert.KernelIdeal.Table

end
-- ==== Proof.Block.lean ====
/-
  What one grid point's body computes, over the extended reals: the product of a 2048 × 256 block with the 0/1 selection
  matrix is the block's even columns. Each product has one term that is not zero, so no finiteness is needed: `x * 0` is 0
  for every extended real `x`.
-/
module

public import proofs.«01_k».proof.Proof.Gen.KernelIdeal.Frame
public import proofs.«01_k».proof.Proof.Table
public import Idealize.ShloMosaic.Lib.MatmulPlain
public import Idealize.ShloMosaic.Lib.ValueIdx
public import Idealize.ShloMosaic.Lib.Pipeline.Value

@[expose] public section

noncomputable section

namespace Cert.KernelIdeal.Block

open Cert.KernelIdeal Cert.KernelIdeal.Gen Idealize.ShloMosaic Idealize.ShloMosaic.ValueIdx

/-- Column `2 * b` of a row of 256: the feature that output column `b` selects. -/
def even (b : Fin 128) : Fin 256 := ⟨2 * b.val, by omega⟩

/-- The stored block, at row `r` and column `b`, is the loaded block at row `r` and column `2 * b`, whatever the loaded
    block holds, when the second operand is the selection matrix. -/
theorem pay_apply (x : Vec Ideal S2048x256 .f32) (s : Vec Ideal S256x128 .f32)
    (hs : ∀ (a : Fin 256) (b : Fin 128), (s (ix2 a b) : EReal) = if a.val = 2 * b.val then 1 else 0)
    (r : Fin 2048) (b : Fin 128) :
    k0_pay1 x s (ix2 r b) = x (ix2 r (even b)) := by
  have hd : dot_S2048x256_S256x128_S2048x128_1_0_0_1_n_n = DotDims.plain 2048 256 128 := rfl
  unfold k0_pay1
  rw [shapeCast_self, hd]
  refine (Ideal.matmul_plain_apply _ _ _ _ r b).trans ?_
  have h0 : (constant (F := Ideal) S2048x128 .f32 0x00000000#32 (ix2 r b) : EReal) = 0 := Ideal.ofBits_zero_f32
  rw [h0, zero_add, Finset.sum_eq_single (even b)]
  · rw [hs, if_pos (show (even b).val = 2 * b.val from rfl), mul_one]
  · intro a _ ha
    rw [hs, if_neg (fun h : a.val = 2 * b.val => ha (Fin.ext h)), mul_zero]
  · intro h
    exact absurd (Finset.mem_univ _) h

end Cert.KernelIdeal.Block

end
-- ==== Proof.Array.lean ====
/-
  What the kernel's result array holds when the grid is done, over the extended reals: the even columns of the 16384 × 256
  array it reads. The eight row blocks tile the array, and each is the even columns of the block read at the same rows.
-/
module

public import proofs.«01_k».proof.Proof.Block

@[expose] public section

set_option maxRecDepth 16384

noncomputable section

namespace Cert.KernelIdeal.Block

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The rows of features: the argument with its first two axes merged, as the host reshape leaves it. -/
abbrev rows (c : Dev nD) : Vec Ideal S16384x256 .f32 :=
  shapeCast S16384x256 (m ((c : Thread nD τ).loc main_arg0)) shapeCasts_S4x4096x256_S16384x256

/-- Their even columns. -/
abbrev evens (c : Dev nD) : Vec Ideal S16384x128 .f32 := fun i => rows m c (ix2 (i 0) (even (i 1)))

/-- The region finds the reshaped argument in the first operand's array, -/
theorem V_v0 (c : Dev nD) : V m c main_v0 = rows m c := by
  unfold V V0
  simp only [hostOps0, List.flatten_cons, List.flatten_nil, List.append_nil]
  after_results <;> rfl

/-- and the constant table in the second operand's. -/
theorem V_cst (c : Dev nD) :
    V m c main_cst = fun i => FloatOps.ofBits (F := Ideal) .f32 (lit0 (S256x128.rowMajor i)) := by
  unfold V V0
  simp only [hostOps0, List.flatten_cons, List.flatten_nil, List.append_nil]
  after_results <;> rfl

theorem off_zero : (![0, 0] : Fin 2 → Nat) = fun _ => 0 := funext fun a => by fin_cases a <;> rfl

/-- Where each window's block lies at point `t`: rows `2048 * t` of the operand and of the result, the table whole. -/
theorem blocks : ∀ t : Fin grid0.N,
    (win0_0.index t 0 * win0_0.size 0 = 2048 * t.val ∧ win0_0.index t 1 * win0_0.size 1 = 0)
    ∧ (win0_1.index t 0 * win0_1.size 0 = 0 ∧ win0_1.index t 1 * win0_1.size 1 = 0)
    ∧ (win0_2.index t 0 * win0_2.size 0 = 2048 * t.val ∧ win0_2.index t 1 * win0_2.size 1 = 0)
    ∧ win0_2.xsize (grid0.coords t) 0 = 2048 ∧ win0_2.xsize (grid0.coords t) 1 = 128 := by
  decide +kernel

/-- The two operands' blocks at point `t`, as arrays of the block shapes. -/
abbrev rowBlk (c : Dev nD) (t : Fin cfg0.N) : Vec Ideal S2048x256 .f32 := iblk m c 0 t
abbrev selBlk (c : Dev nD) (t : Fin cfg0.N) : Vec Ideal S256x128 .f32 := iblk m c 1 t

/-- The first operand's block at point `t` is its 2048 rows from `2048 * t`. -/
theorem iblk_rows (c : Dev nD) (t : Fin cfg0.N) (r : Fin 2048) (a : Fin 256) (h : 2048 * t.val + r.val < 16384) :
    rowBlk m c t (ix2 r a) = rows m c (ix2 ⟨2048 * t.val + r.val, h⟩ a) := by
  have hb := (blocks t).1
  rw [← V_v0]
  unfold rowBlk iblk
  rw [View.read_apply]
  show V m c main_v0 _ = V m c main_v0 _
  congr 1
  funext k
  apply Fin.ext
  match k with
  | ⟨0, _⟩ => show win0_0.index t 0 * win0_0.size 0 + 1 * r.val = 2048 * t.val + r.val; rw [hb.1]; omega
  | ⟨1, _⟩ => show win0_0.index t 1 * win0_0.size 1 + 1 * a.val = a.val; rw [hb.2]; omega

/-- The second operand's block is the selection matrix at every point. -/
theorem iblk_sel (c : Dev nD) (t : Fin cfg0.N) (a : Fin 256) (b : Fin 128) :
    (selBlk m c t (ix2 a b) : EReal) = if a.val = 2 * b.val then 1 else 0 := by
  have hb := (blocks t).2.1
  rw [← Table.entry a b]
  refine Eq.trans ?_ (congrFun (V_cst m c) (ix2 a b))
  unfold selBlk iblk
  rw [View.read_apply]
  show V m c main_cst _ = V m c main_cst _
  congr 1
  funext k
  apply Fin.ext
  match k with
  | ⟨0, _⟩ => show win0_1.index t 0 * win0_1.size 0 + 1 * a.val = a.val; rw [hb.1]; omega
  | ⟨1, _⟩ => show win0_1.index t 1 * win0_1.size 1 + 1 * b.val = b.val; rw [hb.2]; omega

/-- What point `t` writes back is its block of the even columns. -/
theorem flushed_eq (c : Dev nD) (t : Fin cfg0.N) :
    (dats m 0 c).flushed 2 t = (win0_2.blk t).view.read (Elt Ideal) (evens m c) := by
  have hb := (blocks t).2.2.1
  have ht : t.val < 8 := lt_of_lt_of_eq t.isLt N_0
  show (cfg0.win 2).cut (grid0.coords t) ((dats m 0 c).after 2 t) = _
  rw [after0_2]
  unfold out0_2
  rw [View.canon_unit_zero off_zero, View.ld_unit_zero off_zero, View.ld_unit_zero off_zero]
  funext j
  rw [View.read_apply]
  have hr : 2048 * t.val + (j 0).val < 16384 := by have : (j 0).val < 2048 := (j 0).isLt; omega
  have hj : j = ix2 (n0 := 2048) (n1 := 128) (j 0) (j 1) := eq_ix2 j
  refine (congrArg (k0_pay1 (rowBlk m c t) (selBlk m c t)) hj).trans ?_
  refine (pay_apply (rowBlk m c t) (selBlk m c t) (iblk_sel m c t) (j 0) (j 1)).trans ?_
  refine (iblk_rows m c t (j 0) (even (j 1)) hr).trans ?_
  show rows m c _ = rows m c _
  congr 1
  funext k
  apply Fin.ext
  match k with
  | ⟨0, _⟩ => show 2048 * t.val + (j 0).val = win0_2.index t 0 * win0_2.size 0 + 1 * (j 0).val; rw [hb.1]; omega
  | ⟨1, _⟩ =>
    show 2 * (j 1).val = 2 * (win0_2.index t 1 * win0_2.size 1 + 1 * (j 1).val); rw [hb.2]; omega

/-- Every index of the result array lies in the block of the point that its row names. -/
theorem cover (i : S16384x128.Idx) :
    ∃ t : Fin cfg0.N, (cfg0.win 2).flush t = true ∧ i ∈ ((cfg0.win 2).blk t).view.set := by
  have h0 : (i 0).val < 16384 := (i 0).isLt
  have h1 : (i 1).val < 128 := (i 1).isLt
  have ht : (i 0).val / 2048 < grid0.N := by rw [N_0]; omega
  refine ⟨⟨(i 0).val / 2048, ht⟩, flush0_2 _, ?_⟩
  obtain ⟨-, -, ⟨hb0, hb1⟩, hx0, hx1⟩ := blocks ⟨(i 0).val / 2048, ht⟩
  show i ∈ ((View.whole main_v1).slice (win0_2.rect ⟨(i 0).val / 2048, ht⟩)).set
  rw [View.set_slice_whole, Rect.mem_set_unit]
  intro k
  match k with
  | ⟨0, _⟩ =>
    show win0_2.index ⟨(i 0).val / 2048, ht⟩ 0 * win0_2.size 0 ≤ (i 0).val
      ∧ (i 0).val < win0_2.index ⟨(i 0).val / 2048, ht⟩ 0 * win0_2.size 0 + win0_2.xsize (grid0.coords ⟨(i 0).val / 2048, ht⟩) 0
    rw [hb0, hx0]
    dsimp only
    omega
  | ⟨1, _⟩ =>
    show win0_2.index ⟨(i 0).val / 2048, ht⟩ 1 * win0_2.size 1 ≤ (i 1).val
      ∧ (i 1).val < win0_2.index ⟨(i 0).val / 2048, ht⟩ 1 * win0_2.size 1 + win0_2.xsize (grid0.coords ⟨(i 0).val / 2048, ht⟩) 1
    rw [hb1, hx1]
    omega

/-- The result array ends holding the even columns of the rows. -/
theorem final (c : Dev nD) : (dats m 0 c).arrAt 2 cfg0.N = evens m c :=
  (dats m 0 c).arrAt_eq_of_cover 2 (evens m c) (fun t _ => flushed_eq m c t) cover

end Cert.KernelIdeal.Block

end
-- ==== Proof.Run.lean ====
/-
  The kernel's run, read over the extended reals: its result is the argument's even feature columns, and the argument is
  unchanged. The host reshapes before and after the region merge and split the first two axes, which the selection of a
  column does not see.
-/
module

public import proofs.«01_k».proof.Proof.Array

@[expose] public section

set_option maxRecDepth 16384

noncomputable section

namespace Cert.KernelIdeal.Block

open Cert.KernelIdeal Cert.KernelIdeal.Gen Idealize.ShloMosaic Idealize.ShloMosaic.TcCoe Idealize.ShloMosaic.ValueIdx
open Idealize.SL.Sem

/-- THE SELECTION: the even feature columns of an array of features. -/
def selected (x : Vec Ideal S4x4096x256 .f32) : Vec Ideal S4x4096x128 .f32 :=
  fun i => x (ix3 (i 0) (i 1) (even (i 2)))

/-- Merging the first two axes, taking the even columns and splitting the axes again is the selection. -/
theorem split_merged (x : Vec Ideal S4x4096x256 .f32) :
    shapeCast S4x4096x128
      (fun i : S16384x128.Idx => shapeCast S16384x256 x shapeCasts_S4x4096x256_S16384x256 (ix2 (i 0) (even (i 1))))
      shapeCasts_S16384x128_S4x4096x128 = selected x := by
  funext i
  obtain ⟨p, q, b, rfl⟩ : ∃ (p : Fin 4) (q : Fin 4096) (b : Fin 128), i = ix3 p q b := ⟨i 0, i 1, i 2, eq_ix3 i⟩
  have hr : p.val * 4096 + q.val < 16384 := by omega
  refine (shapeCast_apply _ _ (ix3 p q b) (ix2 ⟨p.val * 4096 + q.val, hr⟩ b) ?_).trans ?_
  · rw [Shape.rowMajor_val_two, Shape.rowMajor_val_three]
    show (p.val * 4096 + q.val) * 128 + b.val = _
    rfl
  · refine shapeCast_apply x _ _ (ix3 p q (even b)) ?_
    rw [Shape.rowMajor_val_two, Shape.rowMajor_val_three]
    rfl

variable (m : (ℓ : Loc nD τ sig) → Buf (Elt Ideal) ℓ) (ρ : Dev nD → PrngReg)

/-- The result buffer after the host reshape that follows the region. -/
theorem tail_v2 (c : Dev nD) :
    Pipeline.afterTail₀ cfgs (dats m) 0 (V0 m) [hostOps1] c main_v2
      = selected (m ((c : Thread nD τ).loc main_arg0)) := by
  have ha := Pipeline.withArrays_arr (cfgs 0).spec launch0.win.arr_inj c (V0 m c)
    (fun w => (dats m 0 c).arrAt w (cfgs 0).N) 2
  unfold Pipeline.afterTail₀
  simp only [hostOps1, List.flatten_cons, List.flatten_nil, List.append_nil]
  rw [← split_merged]
  after_results
  exact congrArg (fun y : Vec Ideal S16384x128 .f32 => shapeCast S4x4096x128 y shapeCasts_S16384x128_S4x4096x128) (ha.trans (final m c))

/-- THE RUN: every execution ends with the selection in the result and the argument unchanged. -/
theorem run : θ_run defs (onTc (τ := τ) (main (F := Ideal))) ⟨m, fun _ => 0, ρ⟩ fun r => ∀ c : Dev nD,
      r.2.mem ((c : Thread nD τ).loc main_v2) = selected (m ((c : Thread nD τ).loc main_arg0))
      ∧ r.2.mem ((c : Thread nD τ).loc main_arg0) = m ((c : Thread nD τ).loc main_arg0) :=
  (θ_run defs _ _).mono
    (fun _ h c => ⟨((h c).2 main_v2 (Pipeline.mem_restRefs_of main_v2 (by decide) (by decide))).trans (tail_v2 m c),
      ((h c).2 main_arg0 (Pipeline.mem_restRefs_of main_arg0 (by decide) (by decide))).trans (W_main_arg0 m (dats m) c)⟩)
    (run_main m ρ)

end Cert.KernelIdeal.Block

end
-- ==== Proof.RefValue.lean ====
/-
  The reference read at an index, over the extended reals. Its table of columns holds `2 * b` at position `b`; every entry
  is non-negative and at most 255, so no entry is wrapped, every entry is in bounds, and the result is the gathered
  element: the argument at column `2 * b`.
-/
module

public import proofs.«01_k».proof.Proof.Gen.ReferenceIdeal.Run
public import Idealize.ShloMosaic.Lib.ValueIdx

@[expose] public section

set_option maxRecDepth 16384

noncomputable section

namespace Cert.ReferenceIdeal.Take

open Cert.ReferenceIdeal Cert.ReferenceIdeal.Gen Idealize.ShloMosaic Idealize.ShloMosaic.TcCoe Idealize.ShloMosaic.ValueIdx
open Idealize.SL.Sem

/-- The table of columns. -/
abbrev table : IVec S128 32 := fun i => lit0 (S128.rowMajor i)

/-- The start indices: the table's entries, a negative one moved up by 256, in a column. -/
abbrev starts : IVec S128x1 32 :=
  broadcastInDim S128x1 ![0] bcast_S128_S128x1_0 (select (cmpi .slt table (broadcastInDim S128 ![] bcast_S_S128 (constantI S_ 32 0#32)))
    (addi table (broadcastInDim S128 ![] bcast_S_S128 (constantI S_ 32 256#32))) table)

/-- Which of them are in bounds. -/
abbrev inBounds : IVec S128 1 :=
  Host.reduce IntOp.andi (andi (cmpi .sge starts (broadcastInDim S128x1 ![] bcast_S_S128x1 (constantI S_ 32 0#32)))
    (cmpi .sle starts (broadcastInDim S128x1 ![0, 1] bcast_S1x1_S128x1_0_1 (broadcastInDim S1x1 ![1] bcast_S1_S1x1_1 (constantI S1 32 255#32)))))
    (constantI S_ 1 1#1) reducesTo_S128x1_S128_d1 h_S_

theorem starts_apply : ∀ b : Fin 128, starts (ix2 b 0) = BitVec.ofNat 32 (2 * b.val) := by
  decide +kernel

theorem inBounds_apply : ∀ b : Fin 128, inBounds (ix1 b) = 1#1 := by
  decide +kernel

/-- Column `2 * b`. -/
def even (b : Fin 128) : Fin 256 := ⟨2 * b.val, by omega⟩

/-- The gather reads the argument at the column the start index names. -/
theorem gather_apply (x : Vec Ideal S4x4096x256 .f32) (p : Fin 4) (q : Fin 4096) (b : Fin 128) :
    Host.gather gather_S4x4096x256_S128x1_S4x4096x128_01_2_n_n_2_1_440961 x starts (ix3 p q b) = x (ix3 p q (even b)) := by
  unfold Host.gather
  refine congrArg x ?_
  have hs : ∀ k, GatherDims.siIdx gather_S4x4096x256_S128x1_S4x4096x128_01_2_n_n_2_1_440961 (ix3 p q b) k = ix2 b 0 := fun k => by
    funext a
    match a with
    | ⟨0, _⟩ => rfl
    | ⟨1, _⟩ => exact Subsingleton.elim (α := Fin 1) _ _
  have hb : ∀ b : Fin 128, (BitVec.ofNat 32 (2 * b.val)).toInt.toNat = 2 * b.val := by decide +kernel
  funext a
  apply Fin.ext
  match a with
  | ⟨0, _⟩ => show 0 + 0 + p.val = p.val; omega
  | ⟨1, _⟩ => show 0 + 0 + q.val = q.val; omega
  | ⟨2, _⟩ =>
    show min (starts (GatherDims.siIdx gather_S4x4096x256_S128x1_S4x4096x128_01_2_n_n_2_1_440961 (ix3 p q b) _)).toInt.toNat 255 + 0 + 0 = 2 * b.val
    rw [hs, starts_apply, hb b]
    omega

/-- The argument's even feature columns. -/
def selected (x : Vec Ideal S4x4096x256 .f32) : Vec Ideal S4x4096x128 .f32 :=
  fun i => x (ix3 (i 0) (i 1) (even (i 2)))

/-- Where every start index is in bounds the gathered element is kept: the reference's result is the even columns. -/
theorem result_eq (x : Vec Ideal S4x4096x256 .f32) (fill : Vec Ideal S4x4096x128 .f32) :
    select (broadcastInDim S4x4096x128 ![2] bcast_S128_S4x4096x128_2 inBounds)
      (Host.gather gather_S4x4096x256_S128x1_S4x4096x128_01_2_n_n_2_1_440961 x starts) fill = selected x := by
  funext i
  obtain ⟨p, q, b, rfl⟩ : ∃ (p : Fin 4) (q : Fin 4096) (b : Fin 128), i = ix3 p q b := ⟨i 0, i 1, i 2, eq_ix3 i⟩
  have hm : broadcastInDim S4x4096x128 ![2] bcast_S128_S4x4096x128_2 inBounds (ix3 p q b) = 1#1 :=
    (congrArg inBounds (funext fun a => by match a with | ⟨0, _⟩ => rfl)).trans (inBounds_apply b)
  exact (if_pos hm).trans (gather_apply x p q b)

/-- THE RUN: every execution ends with the even columns in the result and the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = selected (m ((c : Thread nD τ).loc main_arg0))
      ∧ r.2.mem ((c : Thread nD τ).loc main_arg0) = m ((c : Thread nD τ).loc main_arg0) :=
  (θ_run defs _ _).mono (fun _ h c => ⟨(h c).1.trans (result_eq _ _), (h c).2⟩) (Value.run m ρ)

end Cert.ReferenceIdeal.Take

end
-- ==== Proof.lean ====
/-
  The proof of the certificate's claim: the kernel and the reference both return the even feature columns of the argument
  over the extended reals, at every index and for every argument; all three programs run, leave the argument unchanged
  and end with every counter at zero.
-/
module

public import proofs.«01_k».proof.Defs
public import proofs.«01_k».proof.Proof.Gen.Kernel.Frame
public import proofs.«01_k».proof.Proof.Run
public import proofs.«01_k».proof.Proof.RefValue
public import Idealize.ShloMosaic.Lib.Quiescent

@[expose] public section

noncomputable section

namespace Cert.Proof

open Idealize.ShloMosaic Idealize.ShloMosaic.TcCoe Idealize.SL.Sem

theorem frame_Kernel : Cert.quiescent_Kernel := fun m ρ _ => Cert.Kernel.Gen.frame m ρ
theorem frame_KernelIdeal : Cert.quiescent_KernelIdeal := fun m ρ _ => Cert.KernelIdeal.Gen.frame m ρ

/-- The reference declares no semaphore, and its run leaves the argument as it was. -/
theorem frame_ReferenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Take.run m ρ)

/-- From arguments that agree both programs end with the same selection. -/
theorem algebraic : Cert.algebraic_KernelIdeal_ReferenceIdeal := fun m ρ m' ρ' _ hag =>
  ⟨fun c => Cert.KernelIdeal.Block.selected (m ((c.tc : Thread Cert.KernelIdeal.nD Cert.KernelIdeal.τ).loc Cert.KernelIdeal.main_arg0)),
    Cert.KernelIdeal.Block.run m ρ,
    (θ_run Cert.ReferenceIdeal.defs _ _).mono
      (fun _ h c => ⟨(h c).1.trans (congrArg Cert.ReferenceIdeal.Take.selected (hag c)), (h c).2⟩)
      (Cert.ReferenceIdeal.Take.run m' ρ')⟩

theorem claim : Cert.Claim :=
  ⟨Cert.Kernel.Gen.facts, Cert.KernelIdeal.Gen.facts, Cert.ReferenceIdeal.Gen.facts,
    frame_Kernel, frame_KernelIdeal, frame_ReferenceIdeal, trivial, algebraic⟩

end Cert.Proof

end
